-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scale [hPre_finite_scale : Cert.Pre_finite_scale.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scale.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scale [hPre_finite_scale : Cert.Pre_finite_scale.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scale.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scale [hKernelIdeal : Cert.KernelIdeal.Facts] [hPre_finite_scale : Cert.Pre_finite_scale.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scale m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scale [hReferenceIdeal : Cert.ReferenceIdeal.Facts] [hPre_finite_scale : Cert.Pre_finite_scale.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scale m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "clamp_sq" .f32 0x2B8CBCCC#32 ((77371252064649 / 77371252455336267181195264 : ℝ) : EReal)

def algebraic_KernelIdeal_ReferenceIdeal_pre_finite_scale [hKernelIdeal : Cert.KernelIdeal.Facts] [hReferenceIdeal : Cert.ReferenceIdeal.Facts] [hPre_finite_scale : Cert.Pre_finite_scale.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scale m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_scale : Cert.Pre_finite_scale.Facts),
    quiescent_Kernel (hKernel := hKernel)
    ∧ quiescent_KernelIdeal (hKernelIdeal := hKernelIdeal)
    ∧ quiescent_KernelIdeal_pre_finite_scale (hKernelIdeal := hKernelIdeal) (hPre_finite_scale := hPre_finite_scale)
    ∧ quiescent_ReferenceIdeal (hReferenceIdeal := hReferenceIdeal)
    ∧ quiescent_ReferenceIdeal_pre_finite_scale (hReferenceIdeal := hReferenceIdeal) (hPre_finite_scale := hPre_finite_scale)
    ∧ preserves_Kernel_KernelIdeal
    ∧ algebraic_KernelIdeal_ReferenceIdeal_pre_finite_scale (hKernelIdeal := hKernelIdeal) (hReferenceIdeal := hReferenceIdeal) (hPre_finite_scale := hPre_finite_scale)
-- ==== Pre_finite_scale.lean ====
abbrev S4x4096x1024 : Shape := ⟨3, ![4, 4096, 1024]⟩
abbrev S6x1024 : Shape := ⟨2, ![6, 1024]⟩
abbrev S8x6 : Shape := ⟨2, ![8, 6]⟩
abbrev S_ : Shape := ⟨0, ![]⟩

class Facts : Prop where

variable [Facts]

def fn {F : FTy → Type} [FloatOps F] (main_arg0 : FVec F S4x4096x1024 .f32) (main_arg1 : FVec F S6x1024 .f32) (main_arg2 : FVec F S8x6 .f32) (main_arg3 : FVec F S_ .f32) : IVec S_ 1 :=
  let main_v0 : FVec F S_ .f32 := Host.absf main_arg3
  let main_cst : FVec F S_ .f32 := constant S_ .f32 0x7F800000#32
  let main_v1 : IVec S_ 1 := cmpf .olt main_v0 main_cst
  main_v1
-- ==== Kernel.lean ====
abbrev S4x4096x1024 : Shape := ⟨3, ![4, 4096, 1024]⟩
abbrev S6x1024 : Shape := ⟨2, ![6, 1024]⟩
abbrev S8x6 : Shape := ⟨2, ![8, 6]⟩
abbrev S_ : Shape := ⟨0, ![]⟩
abbrev S16384x1024 : Shape := ⟨2, ![16384, 1024]⟩
abbrev S8 : Shape := ⟨1, ![8]⟩
abbrev S8x1 : Shape := ⟨2, ![8, 1]⟩
abbrev S1024x6 : Shape := ⟨2, ![1024, 6]⟩
abbrev S8x8192 : Shape := ⟨2, ![8, 8192]⟩
abbrev S2048x1024 : Shape := ⟨2, ![2048, 1024]⟩
abbrev S8x2048 : Shape := ⟨2, ![8, 2048]⟩
abbrev S2048x6 : Shape := ⟨2, ![2048, 6]⟩
abbrev S6x2048 : Shape := ⟨2, ![6, 2048]⟩
abbrev S2048 : Shape := ⟨1, ![2048]⟩
abbrev S1x2048 : Shape := ⟨2, ![1, 2048]⟩
abbrev S8192x8 : Shape := ⟨2, ![8192, 8]⟩
abbrev S16384x8 : Shape := ⟨2, ![16384, 8]⟩
abbrev S4x4096x8 : Shape := ⟨3, ![4, 4096, 8]⟩

abbrev nBuf : Space → Nat
  | .hbm => 26
  | .vmem => 10
  | .smem => 0
  | _ => 0

abbrev bufTy : (tb : Table) → Fin (tcTables nBuf tb) → BufTy
  | .hbm, ⟨0, _⟩ => ⟨S4x4096x1024, .f32⟩
  | .hbm, ⟨1, _⟩ => ⟨S6x1024, .f32⟩
  | .hbm, ⟨2, _⟩ => ⟨S8x6, .f32⟩
  | .hbm, ⟨3, _⟩ => ⟨S_, .f32⟩
  | .hbm, ⟨4, _⟩ => ⟨S16384x1024, .f32⟩
  | .hbm, ⟨5, _⟩ => ⟨S8x6, .f32⟩
  | .hbm, ⟨6, _⟩ => ⟨S_, .f32⟩
  | .hbm, ⟨7, _⟩ => ⟨S8, .f32⟩
  | .hbm, ⟨8, _⟩ => ⟨S8x1, .f32⟩
  | .hbm, ⟨9, _⟩ => ⟨S8x1, .f32⟩
  | .hbm, ⟨10, _⟩ => ⟨S_, .f32⟩
  | .hbm, ⟨11, _⟩ => ⟨S8x1, .f32⟩
  | .hbm, ⟨12, _⟩ => ⟨S8x1, .f32⟩
  | .hbm, ⟨13, _⟩ => ⟨S8x6, .f32⟩
  | .hbm, ⟨14, _⟩ => ⟨S8x6, .f32⟩
  | .hbm, ⟨15, _⟩ => ⟨S_, .f32⟩
  | .hbm, ⟨16, _⟩ => ⟨S_, .f32⟩
  | .hbm, ⟨17, _⟩ => ⟨S8x6, .f32⟩
  | .hbm, ⟨18, _⟩ => ⟨S8x6, .f32⟩
  | .hbm, ⟨19, _⟩ => ⟨S1024x6, .f32⟩
  | .hbm, ⟨20, _⟩ => ⟨S8x8192, .f32⟩
  | .hbm, ⟨21, _⟩ => ⟨S8x8192, .f32⟩
  | .hbm, ⟨22, _⟩ => ⟨S8192x8, .f32⟩
  | .hbm, ⟨23, _⟩ => ⟨S8192x8, .f32⟩
  | .hbm, ⟨24, _⟩ => ⟨S16384x8, .f32⟩
  | .hbm, ⟨25, _⟩ => ⟨S4x4096x8, .f32⟩
  | .local _ .vmem, ⟨0, _⟩ => ⟨S2048x1024, .f32⟩
  | .local _ .vmem, ⟨1, _⟩ => ⟨S2048x1024, .f32⟩
  | .local _ .vmem, ⟨2, _⟩ => ⟨S2048x1024, .f32⟩
  | .local _ .vmem, ⟨3, _⟩ => ⟨S2048x1024, .f32⟩
  | .local _ .vmem, ⟨4, _⟩ => ⟨S1024x6, .f32⟩
  | .local _ .vmem, ⟨5, _⟩ => ⟨S8x6, .f32⟩
  | .local _ .vmem, ⟨6, _⟩ => ⟨S8x2048, .f32⟩
  | .local _ .vmem, ⟨7, _⟩ => ⟨S8x2048, .f32⟩
  | .local _ .vmem, ⟨8, _⟩ => ⟨S8x2048, .f32⟩
  | .local _ .vmem, ⟨9, _⟩ => ⟨S8x2048, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x6 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x6 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "clamp_sq" => some ((77371252064649 / 77371252455336267181195264 : ℝ) : EReal)
  | _ => none
-- ==== ReferenceIdeal.lean ====
abbrev S4x4096x1024 : Shape := ⟨3, ![4, 4096, 1024]⟩
abbrev S6x1024 : Shape := ⟨2, ![6, 1024]⟩
abbrev S8x6 : Shape := ⟨2, ![8, 6]⟩
abbrev S_ : Shape := ⟨0, ![]⟩
abbrev S1024x6 : Shape := ⟨2, ![1024, 6]⟩
abbrev S4x4096x6 : Shape := ⟨3, ![4, 4096, 6]⟩
abbrev S4x4096 : Shape := ⟨2, ![4, 4096]⟩
abbrev S4x4096x1 : Shape := ⟨3, ![4, 4096, 1]⟩
abbrev S8 : Shape := ⟨1, ![8]⟩
abbrev S8x1 : Shape := ⟨2, ![8, 1]⟩
abbrev S6x8 : Shape := ⟨2, ![6, 8]⟩
abbrev S4x4096x8 : Shape := ⟨3, ![4, 4096, 8]⟩

abbrev nBuf : Space → Nat
  | .hbm => 55
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S6x1024, .f32⟩
  | .hbm, ⟨2, _⟩ => ⟨S8x6, .f32⟩
  | .hbm, ⟨3, _⟩ => ⟨S_, .f32⟩
  | .hbm, ⟨4, _⟩ => ⟨S1024x6, .f32⟩
  | .hbm, ⟨5, _⟩ => ⟨S4x4096x6, .f32⟩
  | .hbm, ⟨6, _⟩ => ⟨S4x4096x6, .f32⟩
  | .hbm, ⟨7, _⟩ => ⟨S4x4096x6, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x6, .f32⟩
  | .hbm, ⟨16, _⟩ => ⟨S4x4096x6, .f32⟩
  | .hbm, ⟨17, _⟩ => ⟨S8x6, .f32⟩
  | .hbm, ⟨18, _⟩ => ⟨S_, .f32⟩
  | .hbm, ⟨19, _⟩ => ⟨S8, .f32⟩
  | .hbm, ⟨20, _⟩ => ⟨S8x1, .f32⟩
  | .hbm, ⟨21, _⟩ => ⟨S8x1, .f32⟩
  | .hbm, ⟨22, _⟩ => ⟨S_, .f32⟩
  | .hbm, ⟨23, _⟩ => ⟨S8x1, .f32⟩
  | .hbm, ⟨24, _⟩ => ⟨S8x1, .f32⟩
  | .hbm, ⟨25, _⟩ => ⟨S8x6, .f32⟩
  | .hbm, ⟨26, _⟩ => ⟨S8x6, .f32⟩
  | .hbm, ⟨27, _⟩ => ⟨S6x8, .f32⟩
  | .hbm, ⟨28, _⟩ => ⟨S4x4096x8, .f32⟩
  | .hbm, ⟨29, _⟩ => ⟨S_, .f32⟩
  | .hbm, ⟨30, _⟩ => ⟨S4x4096x8, .f32⟩
  | .hbm, ⟨31, _⟩ => ⟨S4x4096x8, .f32⟩
  | .hbm, ⟨32, _⟩ => ⟨S_, .f32⟩
  | .hbm, ⟨33, _⟩ => ⟨S4x4096x8, .f32⟩
  | .hbm, ⟨34, _⟩ => ⟨S4x4096x8, .f32⟩
  | .hbm, ⟨35, _⟩ => ⟨S_, .f32⟩
  | .hbm, ⟨36, _⟩ => ⟨S4x4096x8, .f32⟩
  | .hbm, ⟨37, _⟩ => ⟨S4x4096x8, .f32⟩
  | .hbm, ⟨38, _⟩ => ⟨S_, .f32⟩
  | .hbm, ⟨39, _⟩ => ⟨S4x4096x8, .f32⟩
  | .hbm, ⟨40, _⟩ => ⟨S4x4096x8, .f32⟩
  | .hbm, ⟨41, _⟩ => ⟨S_, .f32⟩
  | .hbm, ⟨42, _⟩ => ⟨S4x4096, .f32⟩
  | .hbm, ⟨43, _⟩ => ⟨S_, .f32⟩
  | .hbm, ⟨44, _⟩ => ⟨S4x4096, .f32⟩
  | .hbm, ⟨45, _⟩ => ⟨S4x4096, .f32⟩
  | .hbm, ⟨46, _⟩ => ⟨S4x4096x1, .f32⟩
  | .hbm, ⟨47, _⟩ => ⟨S4x4096x8, .f32⟩
  | .hbm, ⟨48, _⟩ => ⟨S4x4096x8, .f32⟩
  | .hbm, ⟨49, _⟩ => ⟨S4x4096x8, .f32⟩
  | .hbm, ⟨50, _⟩ => ⟨S_, .f32⟩
  | .hbm, ⟨51, _⟩ => ⟨S4x4096, .f32⟩
  | .hbm, ⟨52, _⟩ => ⟨S4x4096x1, .f32⟩
  | .hbm, ⟨53, _⟩ => ⟨S4x4096x8, .f32⟩
  | .hbm, ⟨54, _⟩ => ⟨S4x4096x8, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call1_v0 : Ref sig .tc := ⟨.hbm, 17, rfl⟩
abbrev main_call1_cst : Ref sig .tc := ⟨.hbm, 18, rfl⟩
abbrev main_call1_v1 : Ref sig .tc := ⟨.hbm, 19, rfl⟩
abbrev main_call1_v2 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_cst_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]
-- ==== Proof.Literals.lean ====
/-
  The float constants the two programs print, as extended reals: 2, 3, 6, minus infinity, the two small bounds that keep a
  divisor off zero, and the value the kernel's named bound is given. The one fact about the named bound is
  that it is the SQUARE of the reference's bound on a norm.
-/
module

public import proofs.«01_k».proof.KernelIdeal
public import Idealize.ShloMosaic.PureOps.Ideal
public import Idealize.ShloMosaic.PureOps.Ideal.Laws
public import Idealize.ShloMosaic.PureOps.IdealRules

@[expose] public section

noncomputable section

namespace Cert.HammingSoftmax

open Idealize.ShloMosaic

/-- The reference's lower bound on a token's norm: the binary32 number nearest one millionth. -/
def normFloor : ℝ := 8796093 * (2 : ℝ) ^ (-43 : ℤ)

/-- Both programs' lower bound on a prototype's norm: the binary32 number nearest 1e-12. -/
def protoFloor : ℝ := 9223372 * (2 : ℝ) ^ (-63 : ℤ)

theorem normFloor_pos : 0 < normFloor := by unfold normFloor; positivity
theorem protoFloor_pos : 0 < protoFloor := by unfold protoFloor; positivity

theorem word_two : Ideal.ofBits .f32 0x40000000#32 = ((2 : ℝ) : EReal) := by
  simp [Ideal.ofBits, Ideal.ieee, -EReal.coe_mul]; norm_num
theorem word_three : Ideal.ofBits .f32 0x40400000#32 = ((3 : ℝ) : EReal) := by
  simp [Ideal.ofBits, Ideal.ieee, -EReal.coe_mul]; norm_num
theorem word_six : Ideal.ofBits .f32 0x40C00000#32 = ((6 : ℝ) : EReal) := by
  simp [Ideal.ofBits, Ideal.ieee, -EReal.coe_mul]; norm_num
theorem word_neg_inf : Ideal.ofBits .f32 0xFF800000#32 = (⊥ : EReal) := by
  simp [Ideal.ofBits, Ideal.ieee]
theorem word_inf : Ideal.ofBits .f32 0x7F800000#32 = (⊤ : EReal) := by
  simp [Ideal.ofBits, Ideal.ieee]
theorem word_normFloor : Ideal.ofBits .f32 0x358637BD#32 = (normFloor : EReal) := by
  unfold normFloor
  simp [Ideal.ofBits, Ideal.ieee, -EReal.coe_mul]
theorem word_protoFloor : Ideal.ofBits .f32 0x2B8CBCCC#32 = (protoFloor : EReal) := by
  unfold protoFloor
  simp [Ideal.ofBits, Ideal.ieee, -EReal.coe_mul]

/-- The kernel's named bound on a sum of squares is the square of the reference's bound on its root. -/
theorem named_clamp : Named.named (F := Ideal) (φ := .f32) Cert.KernelIdeal.κ "clamp_sq" 0x2B8CBCCC#32
    = ((normFloor ^ 2 : ℝ) : EReal) := by
  have h : Named.named (F := Ideal) (φ := .f32) Cert.KernelIdeal.κ "clamp_sq" 0x2B8CBCCC#32
      = ((77371252064649 / 77371252455336267181195264 : ℝ) : EReal) :=
    IdealRules.named_const.ideal_named_scalar _ _ _ _ rfl
  rw [h]
  congr 1
  unfold normFloor
  norm_num

end Cert.HammingSoftmax

end
-- ==== Proof.Softmax.lean ====
/-
  The mathematics of one token, free of any program. A token has six squashed coordinates `u`, there are eight prototypes
  `p` (their rows already scaled to unit length), a real scale `s` and a positive bound `q`.

  The REFERENCE divides `u` by its length (at least `q`), takes the products with the prototypes, turns each product into
  a soft Hamming distance `(6 - 6 * product) / 2`, multiplies by `-s`, and takes a softmax that first subtracts the greatest entry.
  The KERNEL takes the products of `u` with the prototypes scaled by `3 * s`, multiplies by one over the root of the
  sum of squares (at least `q ^ 2`), and takes a softmax that subtracts nothing.

  The two rows of logits differ by the constant `3 * s` (`refLogit_eq`), and a softmax does not see a constant
  (`softmax_shift`); so the results agree (`kernel_eq_reference`).
-/
module

public import Idealize.ShloMosaic.PureOps.Ideal
public import Mathlib.Data.Finset.Fold
public import Mathlib.Analysis.SpecialFunctions.Trigonometric.Basic

@[expose] public section

noncomputable section

namespace Cert.HammingSoftmax

open Idealize.ShloMosaic

/-! ## The two programs' formulas on extended reals -/

/-- The kernel's logit of prototype row `p`: `P j` is the prototype's entry already multiplied by three times the scale. -/
def kernelLogit (u : Fin 6 → EReal) (p : Fin 6 → EReal) (floorSq : EReal) : EReal :=
  (∑ j, p j * u j) * Ideal.rsqrt (max (∑ j, u j * u j) floorSq)

/-- The reference's logit of prototype row `p`: minus the scale times the soft Hamming distance. -/
def refLogit (u : Fin 6 → EReal) (p : Fin 6 → EReal) (s six two floor : EReal) : EReal :=
  -s * Ideal.div (six - (∑ j, Ideal.div (u j) (max (Ideal.sqrt (∑ j', u j' * u j')) floor) * p j) * six) two

/-- A softmax entry as the kernel takes it. -/
def softmax (l : Fin 8 → EReal) (k : Fin 8) : EReal := Ideal.div (Ideal.exp (l k)) (∑ k', Ideal.exp (l k'))

/-- A softmax entry as the reference takes it: every logit lowered by `M` first. -/
def softmaxFrom (M : EReal) (l : Fin 8 → EReal) (k : Fin 8) : EReal :=
  Ideal.div (Ideal.exp (l k - M)) (∑ k', Ideal.exp (l k' - M))

/-! ## Real numbers stay real -/

/-- A finite sum of real numbers, added as extended reals, is their real sum. -/
theorem sum_coe {n : Nat} (f : Fin n → ℝ) : (∑ i, (f i : EReal)) = ((∑ i, f i : ℝ) : EReal) := by
  induction (Finset.univ : Finset (Fin n)) using Finset.induction_on with
  | empty => simp
  | insert a t ha ih => rw [Finset.sum_insert ha, Finset.sum_insert ha, ih, EReal.coe_add]

theorem max_coe (a b : ℝ) : max (a : EReal) (b : EReal) = ((max a b : ℝ) : EReal) :=
  (EReal.coe_strictMono.monotone.map_max).symm

/-- A quotient of reals by a real that is not zero. -/
theorem div_real (a b : ℝ) (hb : b ≠ 0) : Ideal.div (a : EReal) (b : EReal) = ((a / b : ℝ) : EReal) := by
  rw [Ideal.div_coe hb, ← EReal.coe_mul, mul_one_div]

/-- The greatest of a nonempty list of reals, found starting from minus infinity, is real. -/
theorem fold_max_real (r : Fin 8 → ℝ) : ∃ M : ℝ, Finset.fold max (⊥ : EReal) (fun k => (r k : EReal)) Finset.univ = (M : EReal) := by
  have key : ∀ t : Finset (Fin 8), t.Nonempty → ∃ M : ℝ, t.fold max (⊥ : EReal) (fun k => (r k : EReal)) = (M : EReal) := by
    intro t ht
    induction ht using Finset.Nonempty.cons_induction with
    | singleton a => exact ⟨r a, by simp⟩
    | cons a t ha ht ih =>
      obtain ⟨M, hM⟩ := ih
      exact ⟨max (r a) M, by rw [Finset.fold_cons, hM, max_coe]⟩
  exact key _ Finset.univ_nonempty

/-! ## The norms -/

/-- One over the root of a sum bounded below by `q ^ 2` is one over the root of the sum bounded below by `q`. -/
theorem rsqrt_max_sq (S q : ℝ) (hS : 0 ≤ S) (hq : 0 < q) :
    Ideal.rsqrt (max (S : EReal) ((q ^ 2 : ℝ) : EReal)) = (((max (Real.sqrt S) q)⁻¹ : ℝ) : EReal) := by
  have hpos : 0 < max S (q ^ 2) := lt_max_of_lt_right (by positivity)
  have hroot : Real.sqrt (max S (q ^ 2)) = max (Real.sqrt S) q := by
    have hm : Monotone Real.sqrt := fun a b h => Real.sqrt_le_sqrt h
    rw [hm.map_max, Real.sqrt_sq hq.le]
  rw [max_coe, Ideal.rsqrt_coe, if_neg (not_lt.mpr hpos.le), if_neg hpos.ne', hroot]

/-! ## Logits -/

/-- The kernel's logit on reals. -/
def logit (u p : Fin 6 → ℝ) (s q : ℝ) : ℝ := 3 * s * (∑ j, p j * u j) / max (Real.sqrt (∑ j, u j * u j)) q

theorem sumsq_nonneg (u : Fin 6 → ℝ) : 0 ≤ ∑ j, u j * u j := Finset.sum_nonneg fun j _ => mul_self_nonneg (u j)

theorem kernelLogit_eq (u p : Fin 6 → ℝ) (s q : ℝ) (hq : 0 < q) :
    kernelLogit (fun j => (u j : EReal)) (fun j => ((3 : ℝ) : EReal) * (s : EReal) * (p j : EReal)) ((q ^ 2 : ℝ) : EReal)
      = (logit u p s q : EReal) := by
  unfold kernelLogit logit
  simp only [← EReal.coe_mul, sum_coe]
  rw [rsqrt_max_sq _ q (sumsq_nonneg u) hq, ← EReal.coe_mul]
  congr 1
  rw [div_eq_mul_inv, Finset.mul_sum]
  congr 1
  exact Finset.sum_congr rfl fun j _ => by ring

/-- The reference's logit is the kernel's, lowered by three times the scale. -/
theorem refLogit_eq (u p : Fin 6 → ℝ) (s q : ℝ) (hq : 0 < q) :
    refLogit (fun j => (u j : EReal)) (fun j => (p j : EReal)) (s : EReal) ((6 : ℝ) : EReal) ((2 : ℝ) : EReal) (q : EReal)
      = ((logit u p s q - 3 * s : ℝ) : EReal) := by
  have hn : max (Real.sqrt (∑ j, u j * u j)) q ≠ 0 := (lt_max_of_lt_right hq).ne'
  unfold refLogit logit
  simp only [← EReal.coe_mul, sum_coe]
  rw [Ideal.sqrt_coe, if_neg (not_lt.mpr (sumsq_nonneg u)), max_coe]
  simp only [div_real _ _ hn, ← EReal.coe_mul, sum_coe]
  rw [← EReal.coe_sub, div_real _ _ two_ne_zero, ← EReal.coe_neg, ← EReal.coe_mul]
  congr 1
  have hs : ∑ j, u j / max (Real.sqrt (∑ j, u j * u j)) q * p j
      = (∑ j, p j * u j) / max (Real.sqrt (∑ j, u j * u j)) q := by
    rw [Finset.sum_div]
    exact Finset.sum_congr rfl fun j _ => by ring
  rw [hs]
  ring

/-! ## Softmax -/

/-- A softmax of reals as the kernel takes it is the real softmax. -/
theorem softmax_real (l : Fin 8 → ℝ) (k : Fin 8) :
    softmax (fun k => (l k : EReal)) k = ((Real.exp (l k) / ∑ k', Real.exp (l k') : ℝ) : EReal) := by
  unfold softmax
  simp only [Ideal.exp_coe, sum_coe]
  exact div_real _ _ (Finset.sum_pos (fun _ _ => Real.exp_pos _) Finset.univ_nonempty).ne'

/-- A softmax does not see a constant: logits lowered by `t`, then by any real `M`, have the same softmax. -/
theorem softmax_shift (l : Fin 8 → ℝ) (t M : ℝ) (k : Fin 8) :
    softmaxFrom (M : EReal) (fun k => ((l k - t : ℝ) : EReal)) k = softmax (fun k => (l k : EReal)) k := by
  rw [softmax_real]
  unfold softmaxFrom
  simp only [← EReal.coe_sub, Ideal.exp_coe, sum_coe]
  rw [div_real _ _ (Finset.sum_pos (fun _ _ => Real.exp_pos _) Finset.univ_nonempty).ne']
  congr 1
  have he : ∀ k, Real.exp (l k - t - M) = Real.exp (l k) * Real.exp (-t - M) := fun k => by
    rw [← Real.exp_add]; congr 1; ring
  simp only [he]
  rw [← Finset.sum_mul, mul_div_mul_right _ _ (Real.exp_pos _).ne']

/-- ONE TOKEN: the kernel's softmax is the reference's, for any real coordinates, prototypes and scale. -/
theorem kernel_eq_reference (u : Fin 6 → ℝ) (p : Fin 8 → Fin 6 → ℝ) (s q : ℝ) (hq : 0 < q) (k : Fin 8)
    (L : Fin 8 → EReal)
    (hL : ∀ k, L k = refLogit (fun j => (u j : EReal)) (fun j => (p k j : EReal)) (s : EReal) ((6 : ℝ) : EReal) ((2 : ℝ) : EReal) (q : EReal)) :
    softmax (fun k => kernelLogit (fun j => (u j : EReal)) (fun j => ((3 : ℝ) : EReal) * (s : EReal) * (p k j : EReal)) ((q ^ 2 : ℝ) : EReal)) k
      = softmaxFrom (max ⊥ (Finset.fold max (⊥ : EReal) L Finset.univ)) L k := by
  obtain rfl : L = fun k => ((logit u (p k) s q - 3 * s : ℝ) : EReal) := funext fun k => (hL k).trans (refLogit_eq u (p k) s q hq)
  obtain ⟨M, hM⟩ := fold_max_real (fun k => logit u (p k) s q - 3 * s)
  rw [hM, max_eq_right bot_le]
  simp only [kernelLogit_eq _ _ _ _ hq]
  exact (softmax_shift (fun k => logit u (p k) s q) (3 * s) M k).symm

/-! ## Which operands are real whatever the arguments -/

/-- The hyperbolic tangent of any extended real is real. -/
theorem tanh_real (x : EReal) : ∃ r : ℝ, Ideal.tanh x = (r : EReal) := by
  induction x with
  | bot => exact ⟨-1, by simp⟩
  | top => exact ⟨1, by simp⟩
  | coe r => exact ⟨Real.tanh r, rfl⟩

/-- A square is not negative, at the infinities too. -/
theorem sq_nonneg' (x : EReal) : 0 ≤ x * x := by
  induction x with
  | bot => simp
  | top => simp
  | coe r => exact_mod_cast mul_self_nonneg r

/-- The root of a sum that is not negative is not negative. -/
theorem sqrt_nonneg' (S : EReal) (h : 0 ≤ S) : 0 ≤ Ideal.sqrt S := by
  induction S with
  | bot => simp at h
  | top => simp
  | coe r =>
    rw [Ideal.sqrt_coe, if_neg (not_lt.mpr (by exact_mod_cast h))]
    exact_mod_cast Real.sqrt_nonneg r

/-- One entry of a prototype's row divided by the row's length. -/
def unitRow (p : Fin 6 → EReal) (floor : EReal) (j : Fin 6) : EReal :=
  Ideal.div (p j) (max (Ideal.sqrt (∑ j', p j' * p j')) floor)

/-- A row divided by its length (bounded below by a positive real) is real in every entry: an infinite entry makes the
    length infinite, and anything divided by an infinity is zero. -/
theorem unitRow_real (p : Fin 6 → EReal) (e : ℝ) (he : 0 < e) (j : Fin 6) : ∃ r : ℝ, unitRow p (e : EReal) j = (r : EReal) := by
  unfold unitRow
  have hS : 0 ≤ ∑ j', p j' * p j' := Finset.sum_nonneg fun j' _ => sq_nonneg' (p j')
  have hle : p j * p j ≤ ∑ j', p j' * p j' := Finset.single_le_sum (f := fun j' => p j' * p j') (fun j' _ => sq_nonneg' (p j')) (Finset.mem_univ j)
  generalize (∑ j', p j' * p j') = S at hS hle
  induction S with
  | bot => simp at hS
  | top =>
    refine ⟨0, ?_⟩
    simp [Ideal.div]
  | coe S =>
    have hS' : 0 ≤ S := by exact_mod_cast hS
    generalize p j = x at hle
    induction x with
    | bot => simp at hle
    | top => simp at hle
    | coe x =>
      rw [Ideal.sqrt_coe, if_neg (not_lt.mpr hS'), max_coe]
      exact ⟨_, div_real _ _ (lt_max_of_lt_right he).ne'⟩

end Cert.HammingSoftmax

end
-- ==== Proof.Block.lean ====
/-
  What one grid point computes, read at an index. A grid point holds two blocks of 2048 tokens; of each it stores an 8 by 2048
  block of softmax rows, prototypes down and tokens across. Both stores are the same function of their block
  (`stored_first`, `stored_second`): at prototype k and token c, the softmax of the token's eight kernel logits (`token`).
-/
module

public import proofs.«01_k».proof.Proof.Gen.KernelIdeal.Skeleton
public import proofs.«01_k».proof.Proof.Literals
public import proofs.«01_k».proof.Proof.Softmax
public import Idealize.ShloMosaic.Lib.Pointwise

@[expose] public section

set_option maxRecDepth 16384

noncomputable section

namespace Cert.HammingSoftmax

open Idealize.ShloMosaic Cert.KernelIdeal Cert.KernelIdeal.Gen

/-- One token's entry for prototype `k`: `row` is the token, `wt d j` the projection, `p` the prototypes times three times the scale. -/
def token (row : Fin 1024 → EReal) (wt : Fin 1024 → Fin 6 → EReal) (p : Fin 8 → Fin 6 → EReal) (k : Fin 8) : EReal :=
  softmax (fun k' => kernelLogit (fun j => Ideal.tanh (∑ d, row d * wt d j)) (p k') ((normFloor ^ 2 : ℝ) : EReal)) k

/-- The squashed projection: axis j of token c. -/
theorem squashed (x : FVec Ideal S2048x1024 .f32) (w : FVec Ideal S1024x6 .f32) (j : Fin 6) (c : Fin 2048) :
    k0_pay4 (F := Ideal) x w (ix2 j c) = Ideal.tanh (∑ d, x (ix2 c d) * w (ix2 d j)) := by
  pointwise [k0_pay4]

/-- The reciprocal of token c's length, the length being at least the reference's bound. -/
theorem reciprocal (x : FVec Ideal S2048x1024 .f32) (w : FVec Ideal S1024x6 .f32) (c : Fin 2048) :
    k0_pay5 (F := Ideal) x w (ix2 0 c)
      = Ideal.rsqrt (max (∑ j, k0_pay4 (F := Ideal) x w (ix2 j c) * k0_pay4 (F := Ideal) x w (ix2 j c))
          ((normFloor ^ 2 : ℝ) : EReal)) := by
  rw [← named_clamp]
  pointwise [k0_pay5]

/-- The softmax down the prototypes of column c. -/
theorem normalized (p : FVec Ideal S8x6 .f32) (u : FVec Ideal S6x2048 .f32) (n : FVec Ideal S1x2048 .f32) (k : Fin 8) (c : Fin 2048) :
    k0_pay1 (F := Ideal) p u n (constant S8x2048 .f32 0x00000000#32) (ix2 k c)
      = softmax (fun k' => (∑ j, p (ix2 k' j) * u (ix2 j c)) * n (ix2 0 c)) k := by
  unfold softmax
  pointwise [k0_pay1]

/-- The second stored block is `token` of the second block's rows. -/
theorem stored_second (x : FVec Ideal S2048x1024 .f32) (w : FVec Ideal S1024x6 .f32) (p : FVec Ideal S8x6 .f32) (k : Fin 8) (c : Fin 2048) :
    k0_pay1 (F := Ideal) (k0_pay2 p) (k0_pay4 x w) (k0_pay5 x w) (constant S8x2048 .f32 0x00000000#32) (ix2 k c)
      = token (fun d => x (ix2 c d)) (fun d j => w (ix2 d j)) (fun k' j => p (ix2 k' j)) k := by
  have hp : k0_pay2 (F := Ideal) p = p := by
    funext i
    idx_vars i
    pointwise [k0_pay2]
  rw [normalized, hp, reciprocal]
  simp only [squashed]
  rfl

/-- The first stored block is `token` of the first block's rows. -/
theorem stored_first (x : FVec Ideal S2048x1024 .f32) (w : FVec Ideal S1024x6 .f32) (p : FVec Ideal S8x6 .f32) (k : Fin 8) (c : Fin 2048) :
    k0_pay3 (F := Ideal) x w p (ix2 k c)
      = token (fun d => x (ix2 c d)) (fun d j => w (ix2 d j)) (fun k' j => p (ix2 k' j)) k :=
  stored_second x w p k c

end Cert.HammingSoftmax

end
-- ==== Proof.KernelArrays.lean ====
/-
  The two arrays the kernel leaves, in closed form. The tokens stand in one array of 16384 rows; point t of the grid of
  four takes rows 2048 t and rows 2048 (t + 4), and writes columns 2048 t of the first and of the second output array. So the first
  array holds `token` of row c in column c, the second `token` of row 8192 + c.
-/
module

public import proofs.«01_k».proof.Proof.Gen.KernelIdeal.Frame
public import proofs.«01_k».proof.Proof.Block
public import Idealize.ShloMosaic.Lib.Pipeline.ValueKit

@[expose] public section

set_option maxRecDepth 16384

noncomputable section

namespace Cert.HammingSoftmax

open Idealize.ShloMosaic Cert.KernelIdeal Cert.KernelIdeal.Gen Idealize.ShloMosaic.Pipeline

variable (m : (ℓ : Loc nD τ sig) → Buf (Elt Ideal) ℓ) (c : Dev nD)

/-- The 16384 tokens, as the region finds them. -/
def tokens : FVec Ideal S16384x1024 .f32 := V m c main_v0
/-- The projection, transposed, as the region finds it. -/
def weights : FVec Ideal S1024x6 .f32 := V m c main_v9
/-- The scaled prototypes, as the region finds them. -/
def protos : FVec Ideal S8x6 .f32 := V m c main_v8

/-- Entry (k, i) of an output array whose tokens start at row `8192 * h`. -/
def half (h : Fin 2) : FVec Ideal S8x8192 .f32 := fun i =>
  token (fun d => tokens m c (ix2 ⟨8192 * h.val + (i 1).val, by
      have h1 : (i 1).val < 8192 := (i 1).isLt
      have := h.isLt
      show _ < 16384
      omega⟩ d))
    (fun d j => weights m c (ix2 d j)) (fun k j => protos m c (ix2 k j)) ⟨(i 0).val, (i 0).isLt⟩

/-- Where the blocks of each window lie, at every grid point. -/
theorem places : ∀ t : Fin cfg0.grid.N,
    win0_0.index t = ![(grid0.coords t 0).val, 0] ∧ win0_1.index t = ![(grid0.coords t 0).val + 4, 0]
      ∧ win0_2.index t = ![0, 0] ∧ win0_3.index t = ![0, 0]
      ∧ win0_4.index t = ![0, (grid0.coords t 0).val] ∧ win0_5.index t = ![0, (grid0.coords t 0).val] := by
  decide +kernel

/-- Equal tokens, weights, prototypes and prototype number give an equal entry. -/
theorem token_congr {row row' : Fin 1024 → EReal} {wt wt' : Fin 1024 → Fin 6 → EReal} {p p' : Fin 8 → Fin 6 → EReal} {k k' : Fin 8}
    (hr : ∀ d, row d = row' d) (hw : ∀ d j, wt d j = wt' d j) (hp : ∀ k j, p k j = p' k j) (hk : k.val = k'.val) :
    token row wt p k = token row' wt' p' k' := by
  obtain rfl : row = row' := funext hr
  obtain rfl : wt = wt' := funext fun d => funext (hw d)
  obtain rfl : p = p' := funext fun k => funext (hp k)
  obtain rfl : k = k' := Fin.ext hk
  rfl

/-- An index of a stored block, by its two coordinates. -/
theorem entry_of (y : S8x2048.Idx) : ∃ (k : Fin 8) (i : Fin 2048), y = ix2 k i :=
  ⟨y 0, y 1, by idx_vars y⟩

theorem first_array : (dats m 0 c).arrAt 4 cfg0.N = half m c 0 := by
  refine (dats m 0 c).arrAt_eq_of_covers 4 _ (by decide +kernel) fun t hf y => ?_
  blk_simp
  rw [after0_4]
  frame_out
  obtain ⟨k, i, rfl⟩ := entry_of y
  rw [stored_first]
  unfold half
  obtain ⟨e0, e1, e2, e3, e4, e5⟩ := places t
  refine token_congr (fun d => ?_) (fun d j => ?_) (fun k j => ?_) ?_
  · unfold tokens
    blk_ext [iblk, e0, e4]
  · unfold weights
    blk_ext [iblk, e2]
  · unfold protos
    blk_ext [iblk, e3]
  · blk_simp [e4]

theorem second_array : (dats m 0 c).arrAt 5 cfg0.N = half m c 1 := by
  refine (dats m 0 c).arrAt_eq_of_covers 5 _ (by decide +kernel) fun t hf y => ?_
  blk_simp
  rw [after0_5]
  frame_out
  obtain ⟨k, i, rfl⟩ := entry_of y
  rw [stored_second]
  unfold half
  obtain ⟨e0, e1, e2, e3, e4, e5⟩ := places t
  refine token_congr (fun d => ?_) (fun d j => ?_) (fun k j => ?_) ?_
  · unfold tokens
    blk_ext [iblk, e1, e5]
  · unfold weights
    blk_ext [iblk, e2]
  · unfold protos
    blk_ext [iblk, e3]
  · blk_simp [e5]

end Cert.HammingSoftmax

end
-- ==== Proof.KernelEntry.lean ====
/-
  What the host operations before the kernel hand it, read at an index from the program's arguments: the tokens of all four
  batches in one list, the projection transposed, and the prototypes, each row scaled to unit length and then
  by three times the Hamming scale.
-/
module

public import proofs.«01_k».proof.Proof.KernelArrays
public import Idealize.ShloMosaic.Lib.StableHlo.Run

@[expose] public section

set_option maxRecDepth 16384

noncomputable section

namespace Cert.HammingSoftmax

open Idealize.ShloMosaic Cert.KernelIdeal Cert.KernelIdeal.Gen Idealize.ShloMosaic.Pipeline

variable (m : (ℓ : Loc nD τ sig) → Buf (Elt Ideal) ℓ) (c : Dev nD)

/-- The tokens, as the program is given them. -/
def argTokens : FVec Ideal S4x4096x1024 .f32 := m ((c.tc : Thread nD τ).loc main_arg0)
/-- The projection. -/
def argProj : FVec Ideal S6x1024 .f32 := m ((c.tc : Thread nD τ).loc main_arg1)
/-- The prototypes. -/
def argProtos : FVec Ideal S8x6 .f32 := m ((c.tc : Thread nD τ).loc main_arg2)
/-- The Hamming scale. -/
def argScale : FVec Ideal S_ .f32 := m ((c.tc : Thread nD τ).loc main_arg3)

/-- Row r of the list of tokens is token r mod 4096 of batch r / 4096. -/
theorem tokens_at (b : Fin 4) (s : Fin 4096) (r : Fin 16384) (d : Fin 1024) (hr : r.val = 4096 * b.val + s.val) :
    tokens m c (ix2 r d) = argTokens m c (ix3 b s d) := by
  unfold tokens argTokens V V0
  simp only [hostOps0, hostOps0_1, hostOps0_2, List.flatten_cons, List.flatten_nil, List.cons_append, List.nil_append, List.append_nil,
    StableHlo.TRef.binary, StableHlo.TRef.nullary, StableHlo.TRef.unary, StableHlo.TRef.toBuf, StableHlo.TRef.ofBuf, cast_eq]
  after_results_simp
  pointwise
  have eb : r.val / 4096 = b.val := by omega
  have es : r.val % 4096 = s.val := by omega
  simp only [eb, es]

theorem weights_at (d : Fin 1024) (j : Fin 6) : weights m c (ix2 d j) = argProj m c (ix2 j d) := by
  unfold weights argProj V V0
  simp only [hostOps0, hostOps0_1, hostOps0_2, List.flatten_cons, List.flatten_nil, List.cons_append, List.nil_append, List.append_nil,
    StableHlo.TRef.binary, StableHlo.TRef.nullary, StableHlo.TRef.unary, StableHlo.TRef.toBuf, StableHlo.TRef.ofBuf, cast_eq]
  after_results_simp
  pointwise

theorem protos_at (k : Fin 8) (j : Fin 6) :
    protos m c (ix2 k j) = ((3 : ℝ) : EReal) * argScale m c ix0 * unitRow (fun j' => argProtos m c (ix2 k j')) (protoFloor : EReal) j := by
  unfold protos argProtos argScale unitRow
  rw [← word_three, ← word_protoFloor]
  unfold V V0
  simp only [hostOps0, hostOps0_1, hostOps0_2, List.flatten_cons, List.flatten_nil, List.cons_append, List.nil_append, List.append_nil,
    StableHlo.TRef.binary, StableHlo.TRef.nullary, StableHlo.TRef.unary, StableHlo.TRef.toBuf, StableHlo.TRef.ofBuf, cast_eq]
  after_results_simp
  pointwise

end Cert.HammingSoftmax

end
-- ==== Proof.KernelValue.lean ====
/-
  The whole kernel program: its result array in closed form, and its run. After the kernel the host turns the two output arrays so
  that tokens run down, puts the second below the first and cuts the list of 16384 rows into four batches; so entry
  (b, s, k) of the result is `token` of token s of batch b (`result_at`).
-/
module

public import proofs.«01_k».proof.Proof.KernelEntry

@[expose] public section

set_option maxRecDepth 16384

noncomputable section

namespace Cert.HammingSoftmax

open Idealize.ShloMosaic Cert.KernelIdeal Cert.KernelIdeal.Gen Idealize.ShloMosaic.Pipeline Idealize.SL.Sem

variable (m : (ℓ : Loc nD τ sig) → Buf (Elt Ideal) ℓ) (c : Dev nD)

/-- The arrays as the region leaves them, laid over the contents it found. -/
abbrev afterRegion : Valuation τ sig (Elt Ideal) :=
  withArrays (cfgs 0).spec c (V0 m c) fun w => (dats m 0 c).arrAt w (cfgs 0).N

theorem afterRegion_first : afterRegion m c (Proc.devRef .tc main_v10_0) = half m c 0 :=
  (withArrays_arr_shared (cfgs 0).spec c (V0 m c) _ (Dat.arrAt_sharedIn (dats m 0 c) sharedIn0 (V0 m c) (A_eq m c) _) 4).trans (first_array m c)

theorem afterRegion_second : afterRegion m c (Proc.devRef .tc main_v10_1) = half m c 1 :=
  (withArrays_arr_shared (cfgs 0).spec c (V0 m c) _ (Dat.arrAt_sharedIn (dats m 0 c) sharedIn0 (V0 m c) (A_eq m c) _) 5).trans (second_array m c)

/-- The program's result array. -/
def result : FVec Ideal S4x4096x8 .f32 := afterTail₀ cfgs (dats m) 0 (V0 m) [hostOps1] c main_v14

/-- The contents after the two transposes. -/
abbrev afterTransposes : Valuation τ sig (Elt Ideal) := StableHlo.after (hostOps1.take 2) (afterRegion m c)

theorem transposed_first : afterTransposes m c (Proc.devRef .tc main_v11)
    = transpose S8192x8 [1, 0] (half m c 0) transposes_S8x8192_S8192x8_1_0 := by
  have h1 := afterRegion_first m c
  unfold afterTransposes
  generalize afterRegion m c = A at h1 ⊢
  simp only [hostOps1, List.take_succ_cons, List.take_zero]
  after_results_simp
  rw [h1]

theorem transposed_second : afterTransposes m c (Proc.devRef .tc main_v12)
    = transpose S8192x8 [1, 0] (half m c 1) transposes_S8x8192_S8192x8_1_0 := by
  have h2 := afterRegion_second m c
  unfold afterTransposes
  generalize afterRegion m c = A at h2 ⊢
  simp only [hostOps1, List.take_succ_cons, List.take_zero]
  after_results_simp
  rw [h2]

theorem result_at (b : Fin 4) (s : Fin 4096) (k : Fin 8) :
    result m c (ix3 b s k)
      = token (fun d => argTokens m c (ix3 b s d)) (fun d j => argProj m c (ix2 j d))
          (fun k' j => ((3 : ℝ) : EReal) * argScale m c ix0 * unitRow (fun j' => argProtos m c (ix2 k' j')) (protoFloor : EReal) j) k := by
  have h1 := transposed_first m c
  have h2 := transposed_second m c
  change StableHlo.after (hostOps1.drop 2) (afterTransposes m c) (Proc.devRef .tc main_v14) (ix3 b s k) = _
  generalize afterTransposes m c = B at h1 h2 ⊢
  simp only [hostOps1, List.drop_succ_cons, List.drop_zero]
  after_results_simp
  rw [h1, h2]
  pointwise
  have half_at : ∀ (h : Fin 2) (i : Fin 8192), 8192 * h.val + i.val = 4096 * b.val + s.val →
      half m c h (ix2 k i) = token (fun d => argTokens m c (ix3 b s d)) (fun d j => argProj m c (ix2 j d))
          (fun k' j => ((3 : ℝ) : EReal) * argScale m c ix0 * unitRow (fun j' => argProtos m c (ix2 k' j')) (protoFloor : EReal) j) k := by
    intro h i hi
    unfold half
    exact token_congr (fun d => tokens_at m c b s _ d hi) (fun d j => weights_at m c d j) (fun k' j => protos_at m c k' j) rfl
  have hb := b.isLt
  have hs := s.isLt
  split
  · exact half_at 0 _ (by simp; omega)
  · exact half_at 1 _ (by simp; omega)

/-- THE RUN: the program terminates from any memory, its result array holds `result` and its arguments are unchanged. -/
theorem kernel_run (ρ : Dev nD → PrngReg) :
    θ_run defs (onTc (τ := τ) (main (F := Ideal))) ⟨m, fun _ => 0, ρ⟩ (fun r => ∀ c : Dev nD,
      r.2.mem ((c.tc : Thread nD τ).loc main_v14) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c).2 main_v14 (mem_restRefs_of main_v14 (by decide) (by decide)),
      ((h c).2 main_arg0 (mem_restRefs_of main_arg0 (by decide) (by decide))).trans (W_main_arg0 m (dats m) c),
      ((h c).2 main_arg1 (mem_restRefs_of main_arg1 (by decide) (by decide))).trans (W_main_arg1 m (dats m) c),
      ((h c).2 main_arg2 (mem_restRefs_of main_arg2 (by decide) (by decide))).trans (W_main_arg2 m (dats m) c),
      ((h c).2 main_arg3 (mem_restRefs_of main_arg3 (by decide) (by decide))).trans (W_main_arg3 m (dats m) c)⟩)
    (run_main m ρ)

end Cert.HammingSoftmax

end
-- ==== Proof.RefValue.lean ====
/-
  The reference's result read at an index: entry (b, s, k) is a softmax, lowered by the greatest logit, of the eight
  logits `refLogit` of token s of batch b.
-/
module

public import proofs.«01_k».proof.Proof.Gen.ReferenceIdeal.Read
public import proofs.«01_k».proof.Proof.Literals
public import proofs.«01_k».proof.Proof.Softmax
public import Idealize.ShloMosaic.Lib.Pointwise

@[expose] public section

set_option maxRecDepth 16384

noncomputable section

namespace Cert.HammingSoftmax

open Idealize.ShloMosaic Cert.ReferenceIdeal Cert.ReferenceIdeal.Gen Cert.ReferenceIdeal.Read

variable (x0 : (⟨S4x4096x1024, .f32⟩ : BufTy).Contents (Elt Ideal)) (x1 : (⟨S6x1024, .f32⟩ : BufTy).Contents (Elt Ideal))
  (x2 : (⟨S8x6, .f32⟩ : BufTy).Contents (Elt Ideal)) (x3 : (⟨S_, .f32⟩ : BufTy).Contents (Elt Ideal))

/-- The squashed projection of token s of batch b. -/
theorem ref_squashed (b : Fin 4) (s : Fin 4096) (j : Fin 6) :
    val_main_v2 (F := Ideal) x0 x1 (ix3 b s j) = Ideal.tanh (∑ d, x0 (ix3 b s d) * x1 (ix2 j d)) := by
  pointwise [val_main_v2, val_main_v1, val_main_v0]

/-- It is divided by its length, the length being at least `normFloor`. -/
theorem ref_unit (b : Fin 4) (s : Fin 4096) (j : Fin 6) :
    val_main_v7 (F := Ideal) x0 x1 (ix3 b s j)
      = unitRow (fun j' => val_main_v2 (F := Ideal) x0 x1 (ix3 b s j')) (normFloor : EReal) j := by
  unfold unitRow
  rw [← word_normFloor]
  pointwise [val_main_v7, val_main_v6, val_main_v5, val_main_v4, val_main_cst, val_main_v3, val_main_call0_v2, val_main_call0_v1,
    val_main_call0_v0, val_main_call0_cst]

/-- A prototype is divided by its length, the length being at least `protoFloor`. -/
theorem ref_proto (k : Fin 8) (j : Fin 6) :
    val_main_v12 (F := Ideal) x2 (ix2 k j) = unitRow (fun j' => x2 (ix2 k j')) (protoFloor : EReal) j := by
  unfold unitRow
  rw [← word_protoFloor]
  pointwise [val_main_v12, val_main_v11, val_main_v10, val_main_v9, val_main_cst_0, val_main_v8, val_main_call1_v2, val_main_call1_v1,
    val_main_call1_v0, val_main_call1_cst]

/-- The logit of prototype k. -/
theorem ref_logit (b : Fin 4) (s : Fin 4096) (k : Fin 8) :
    val_main_v23 (F := Ideal) x0 x1 x2 x3 (ix3 b s k)
      = refLogit (fun j => Ideal.tanh (∑ d, x0 (ix3 b s d) * x1 (ix2 j d))) (fun j => unitRow (fun j' => x2 (ix2 k j')) (protoFloor : EReal) j)
          (x3 ix0) ((6 : ℝ) : EReal) ((2 : ℝ) : EReal) (normFloor : EReal) := by
  have e : val_main_v23 (F := Ideal) x0 x1 x2 x3 (ix3 b s k)
      = -(x3 ix0) * Ideal.div (Ideal.ofBits .f32 0x40C00000#32
          - (∑ j, val_main_v7 (F := Ideal) x0 x1 (ix3 b s j) * val_main_v12 (F := Ideal) x2 (ix2 k j)) * Ideal.ofBits .f32 0x40C00000#32)
          (Ideal.ofBits .f32 0x40000000#32) := by
    pointwise [val_main_v23, val_main_v22, val_main_v21, val_main_v20, val_main_v19, val_main_v18, val_main_v17, val_main_v16,
      val_main_v15, val_main_v14, val_main_v13, val_main_cst_1, val_main_cst_2, val_main_cst_3]
  rw [e, word_six, word_two]
  simp only [ref_unit, ref_proto, ref_squashed]
  rfl

/-- The result. -/
theorem ref_at (b : Fin 4) (s : Fin 4096) (k : Fin 8) :
    val_main_v34 (F := Ideal) x0 x1 x2 x3 (ix3 b s k)
      = softmaxFrom (max ⊥ (Finset.fold max ⊥ (fun k' => val_main_v23 (F := Ideal) x0 x1 x2 x3 (ix3 b s k')) Finset.univ))
          (fun k' => val_main_v23 (F := Ideal) x0 x1 x2 x3 (ix3 b s k')) k := by
  have top : val_main_v24 (F := Ideal) x0 x1 x2 x3 (ix2 b s)
      = Finset.fold max ⊥ (fun k' => val_main_v23 (F := Ideal) x0 x1 x2 x3 (ix3 b s k')) Finset.univ := by
    rw [← word_neg_inf]
    pointwise [val_main_v24, val_main_cst_4]
  unfold softmaxFrom
  rw [← top, ← word_neg_inf]
  pointwise [val_main_v34, val_main_v33, val_main_v32, val_main_v31, val_main_v30, val_main_v29, val_main_v28, val_main_v27,
    val_main_v26, val_main_v25, val_main_cst_6, val_main_cst_5]

end Cert.HammingSoftmax

end
-- ==== Proof.Agree.lean ====
/-
  The two programs agree where the Hamming scale is finite: the precondition read as "the scale is a real number"
  (`scale_real`), and the kernel's result array equal to the reference's, entry by entry (`result_eq`).
-/
module

public import proofs.«01_k».proof.Pre_finite_scale
public import proofs.«01_k».proof.Proof.KernelValue
public import proofs.«01_k».proof.Proof.RefValue

@[expose] public section

set_option maxRecDepth 16384

noncomputable section

namespace Cert.HammingSoftmax

open Idealize.ShloMosaic

/-- The precondition says that the scale is a real number. -/
theorem scale_real [Cert.Pre_finite_scale.Facts] (x : FVec Ideal ⟨3, ![4, 4096, 1024]⟩ .f32) (w : FVec Ideal ⟨2, ![6, 1024]⟩ .f32)
    (p : FVec Ideal ⟨2, ![8, 6]⟩ .f32) (s : FVec Ideal ⟨0, ![]⟩ .f32)
    (h : Cert.Pre_finite_scale.fn (F := Ideal) x w p s = fun _ => 1#1) : ∃ r : ℝ, s ix0 = (r : EReal) := by
  have h0 := congrFun h ix0
  unfold Cert.Pre_finite_scale.fn at h0
  pointwise at h0
  rw [word_inf, Ideal.absf_def] at h0
  have key : ∀ y : EReal, BitVec.ofBool (decide (max y (-y) < ⊤)) = 1#1 → ∃ r : ℝ, y = (r : EReal) := by
    intro y hy
    induction y with
    | bot => simp at hy
    | top => simp at hy
    | coe r => exact ⟨r, rfl⟩
  exact key _ h0

variable (m : (ℓ : Loc Cert.KernelIdeal.nD Cert.KernelIdeal.τ Cert.KernelIdeal.sig) → Buf (Elt Ideal) ℓ) (c : Dev Cert.KernelIdeal.nD)

/-- THE VALUE: with a real scale, the kernel's result is the reference's on the same arguments. -/
theorem result_eq (hs : ∃ r : ℝ, argScale m c ix0 = (r : EReal)) :
    result m c = Cert.ReferenceIdeal.Read.val_main_v34 (F := Ideal) (argTokens m c) (argProj m c) (argProtos m c) (argScale m c) := by
  funext i
  idx_vars i
  obtain ⟨r, hr⟩ := hs
  choose u hu using fun j : Fin 6 => tanh_real (∑ d, argTokens m c (ix3 i0 i1 d) * argProj m c (ix2 j d))
  choose p hp using fun (k' : Fin 8) (j : Fin 6) => unitRow_real (fun j' => argProtos m c (ix2 k' j')) protoFloor protoFloor_pos j
  rw [result_at, ref_at]
  unfold token
  simp only [hu, hp, hr]
  exact kernel_eq_reference u p r normFloor normFloor_pos i2 _ fun k' => by
    rw [ref_logit]
    simp only [hu, hp, hr]

end Cert.HammingSoftmax

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_scale
public import proofs.«01_k».proof.Proof.Gen.ReferenceIdeal.Run
public import proofs.«01_k».proof.Proof.Gen.ReferenceIdeal.Read
public import proofs.«01_k».proof.Proof.Agree
public import Idealize.ShloMosaic.Lib.Quiescent
public import Idealize.ShloMosaic.Adequacy
public import Idealize.ShloMosaic.Init

@[expose] public section

noncomputable section

namespace Cert.Proof

open Idealize.ShloMosaic Idealize.SL.Sem

/-- The reference's frame: a straight line of host operations, on a machine with no semaphore. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The value claim: the two runs end with one array. -/
theorem algebraic : Cert.algebraic_KernelIdeal_ReferenceIdeal_pre_finite_scale := by
  intro m g m' g' hpre hag
  refine ⟨fun c => Cert.HammingSoftmax.result m c, Cert.HammingSoftmax.kernel_run m g, ?_⟩
  refine (θ_run Cert.ReferenceIdeal.defs _ _).mono (fun r h c => ⟨(h c).1.trans ?_, (h c).2⟩)
    (Cert.ReferenceIdeal.Value.run (F := Ideal) m' g')
  obtain ⟨h0, h1, h2, h3⟩ := hag c
  rw [Cert.ReferenceIdeal.Read.val_main_v34_eq, h0, h1, h2, h3]
  exact (Cert.HammingSoftmax.result_eq m c (Cert.HammingSoftmax.scale_real _ _ _ _ (hpre c))).symm

theorem claim : Cert.Claim :=
  ⟨Cert.Kernel.Gen.facts, Cert.KernelIdeal.Gen.facts, Cert.ReferenceIdeal.Gen.facts, Cert.Pre_finite_scale.Gen.facts,
    fun m g _ => Cert.Kernel.Gen.frame m g,
    fun m g _ => Cert.KernelIdeal.Gen.frame m g,
    fun m g _ => Cert.KernelIdeal.Gen.frame m g,
    frame_reference,
    fun m g _ => frame_reference m g trivial,
    IdealRules.named_const.statement Cert.KernelIdeal.κ "clamp_sq" .f32 0x2B8CBCCC#32 _ rfl,
    algebraic⟩

end Cert.Proof

end
